-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v240)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v240) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x256 : Shape := ⟨2, ![10000, 256]⟩
abbrev S2x160000 : Shape := ⟨2, ![2, 160000]⟩
abbrev S160000 : Shape := ⟨1, ![160000]⟩
abbrev S256x512 : Shape := ⟨2, ![256, 512]⟩
abbrev S512 : Shape := ⟨1, ![512]⟩
abbrev S512x40 : Shape := ⟨2, ![512, 40]⟩
abbrev S40 : Shape := ⟨1, ![40]⟩
abbrev S11 : Shape := ⟨1, ![11]⟩
abbrev S1x512 : Shape := ⟨2, ![1, 512]⟩
abbrev S1x40 : Shape := ⟨2, ![1, 40]⟩
abbrev S10000x40 : Shape := ⟨2, ![10000, 40]⟩
abbrev S1000x256 : Shape := ⟨2, ![1000, 256]⟩
abbrev S1000x40 : Shape := ⟨2, ![1000, 40]⟩
abbrev S1000x512 : Shape := ⟨2, ![1000, 512]⟩
abbrev S1x160000 : Shape := ⟨2, ![1, 160000]⟩
abbrev S_ : Shape := ⟨0, ![]⟩
abbrev S10000 : Shape := ⟨1, ![10000]⟩
abbrev S160000x1 : Shape := ⟨2, ![160000, 1]⟩
abbrev S160000x40 : Shape := ⟨2, ![160000, 40]⟩
abbrev S1 : Shape := ⟨1, ![1]⟩
abbrev S1000 : Shape := ⟨1, ![1000]⟩
abbrev S1000x1 : Shape := ⟨2, ![1000, 1]⟩

abbrev nBuf : Space → Nat
  | .hbm => 301
  | .vmem => 12
  | .smem => 0
  | _ => 0

abbrev hbmTy0_0 (i : Nat) : BufTy := match i % 128 with
  | 0 => ⟨S10000x256, .f32⟩
  | 1 => ⟨S2x160000, .i32⟩
  | 2 => ⟨S160000, .f32⟩
  | 3 => ⟨S256x512, .f32⟩
  | 4 => ⟨S512, .f32⟩
  | 5 => ⟨S512x40, .f32⟩
  | 6 => ⟨S40, .f32⟩
  | 7 => ⟨S11, .f32⟩
  | 8 => ⟨S1x512, .f32⟩
  | 9 => ⟨S1x40, .f32⟩
  | 10 => ⟨S10000x40, .f32⟩
  | 11 => ⟨S1x160000, .i32⟩
  | 12 => ⟨S160000, .i32⟩
  | 13 => ⟨S1x160000, .i32⟩
  | 14 => ⟨S160000, .i32⟩
  | 15 => ⟨S_, .f32⟩
  | 16 => ⟨S10000, .f32⟩
  | 17 => ⟨S160000x1, .i32⟩
  | 18 => ⟨S10000, .f32⟩
  | 19 => ⟨S_, .f32⟩
  | 20 => ⟨S10000, .f32⟩
  | 21 => ⟨S10000, .i1⟩
  | 22 => ⟨S_, .f32⟩
  | 23 => ⟨S_, .f32⟩
  | 24 => ⟨S10000, .f32⟩
  | 25 => ⟨S10000, .f32⟩
  | 26 => ⟨S_, .f32⟩
  | 27 => ⟨S10000, .f32⟩
  | 28 => ⟨S10000, .i1⟩
  | 29 => ⟨S10000, .f32⟩
  | 30 => ⟨S_, .f32⟩
  | 31 => ⟨S_, .f32⟩
  | 32 => ⟨S10000, .f32⟩
  | 33 => ⟨S10000, .f32⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S160000, .f32⟩
  | 43 => ⟨S160000, .f32⟩
  | 44 => ⟨S_, .i32⟩
  | 45 => ⟨S160000, .i32⟩
  | 46 => ⟨S160000, .i1⟩
  | 47 => ⟨S_, .i32⟩
  | 48 => ⟨S160000, .i32⟩
  | 49 => ⟨S160000, .i32⟩
  | 50 => ⟨S160000, .i32⟩
  | 51 => ⟨S160000x1, .i32⟩
  | 52 => ⟨S160000, .f32⟩
  | 53 => ⟨S160000, .f32⟩
  | 54 => ⟨S160000x1, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S160000x40, .f32⟩
  | 64 => ⟨S160000x40, .f32⟩
  | 65 => ⟨S160000x40, .f32⟩
  | 66 => ⟨S_, .f32⟩
  | 67 => ⟨S10000x40, .f32⟩
  | 68 => ⟨S160000x1, .i32⟩
  | 69 => ⟨S10000x40, .f32⟩
  | 70 => ⟨S1, .f32⟩
  | 71 => ⟨S_, .f32⟩
  | 72 => ⟨S10000x40, .f32⟩
  | 73 => ⟨S10000x40, .f32⟩
  | 74 => ⟨S10000x40, .f32⟩
  | 75 => ⟨S160000x1, .f32⟩
  | 76 => ⟨S_, .i32⟩
  | 77 => ⟨S160000, .i32⟩
  | 78 => ⟨S160000, .i1⟩
  | 79 => ⟨S_, .i32⟩
  | 80 => ⟨S160000, .i32⟩
  | 81 => ⟨S160000, .i32⟩
  | 82 => ⟨S160000, .i32⟩
  | 83 => ⟨S160000x1, .i32⟩
  | 84 => ⟨S160000x40, .f32⟩
  | 85 => ⟨S160000x40, .f32⟩
  | 86 => ⟨S160000x40, .f32⟩
  | 87 => ⟨S_, .f32⟩
  | 88 => ⟨S10000x40, .f32⟩
  | 89 => ⟨S160000x1, .i32⟩
  | 90 => ⟨S10000x40, .f32⟩
  | 91 => ⟨S_, .f32⟩
  | 92 => ⟨S10000x40, .f32⟩
  | 93 => ⟨S10000x40, .f32⟩
  | 94 => ⟨S10000x40, .f32⟩
  | 95 => ⟨S1, .f32⟩
  | 96 => ⟨S_, .f32⟩
  | 97 => ⟨S10000x40, .f32⟩
  | 98 => ⟨S10000x40, .f32⟩
  | 99 => ⟨S10000x40, .f32⟩
  | 100 => ⟨S160000x1, .f32⟩
  | 101 => ⟨S_, .i32⟩
  | 102 => ⟨S160000, .i32⟩
  | 103 => ⟨S160000, .i1⟩
  | 104 => ⟨S_, .i32⟩
  | 105 => ⟨S160000, .i32⟩
  | 106 => ⟨S160000, .i32⟩
  | 107 => ⟨S160000, .i32⟩
  | 108 => ⟨S160000x1, .i32⟩
  | 109 => ⟨S160000x40, .f32⟩
  | 110 => ⟨S160000x40, .f32⟩
  | 111 => ⟨S160000x40, .f32⟩
  | 112 => ⟨S_, .f32⟩
  | 113 => ⟨S10000x40, .f32⟩
  | 114 => ⟨S160000x1, .i32⟩
  | 115 => ⟨S10000x40, .f32⟩
  | 116 => ⟨S_, .f32⟩
  | 117 => ⟨S10000x40, .f32⟩
  | 118 => ⟨S10000x40, .f32⟩
  | 119 => ⟨S10000x40, .f32⟩
  | 120 => ⟨S1, .f32⟩
  | 121 => ⟨S_, .f32⟩
  | 122 => ⟨S10000x40, .f32⟩
  | 123 => ⟨S10000x40, .f32⟩
  | 124 => ⟨S10000x40, .f32⟩
  | 125 => ⟨S160000x1, .f32⟩
  | 126 => ⟨S_, .i32⟩
  | 127 => ⟨S160000, .i32⟩
  | _ => ⟨S10000x256, .f32⟩

abbrev hbmTy0_1 (i : Nat) : BufTy := match i % 128 with
  | 0 => ⟨S160000, .i1⟩
  | 1 => ⟨S_, .i32⟩
  | 2 => ⟨S160000, .i32⟩
  | 3 => ⟨S160000, .i32⟩
  | 4 => ⟨S160000, .i32⟩
  | 5 => ⟨S160000x1, .i32⟩
  | 6 => ⟨S160000x40, .f32⟩
  | 7 => ⟨S160000x40, .f32⟩
  | 8 => ⟨S160000x40, .f32⟩
  | 9 => ⟨S_, .f32⟩
  | 10 => ⟨S10000x40, .f32⟩
  | 11 => ⟨S160000x1, .i32⟩
  | 12 => ⟨S10000x40, .f32⟩
  | 13 => ⟨S_, .f32⟩
  | 14 => ⟨S10000x40, .f32⟩
  | 15 => ⟨S10000x40, .f32⟩
  | 16 => ⟨S10000x40, .f32⟩
  | 17 => ⟨S1, .f32⟩
  | 18 => ⟨S_, .f32⟩
  | 19 => ⟨S10000x40, .f32⟩
  | 20 => ⟨S10000x40, .f32⟩
  | 21 => ⟨S10000x40, .f32⟩
  | 22 => ⟨S160000x1, .f32⟩
  | 23 => ⟨S_, .i32⟩
  | 24 => ⟨S160000, .i32⟩
  | 25 => ⟨S160000, .i1⟩
  | 26 => ⟨S_, .i32⟩
  | 27 => ⟨S160000, .i32⟩
  | 28 => ⟨S160000, .i32⟩
  | 29 => ⟨S160000, .i32⟩
  | 30 => ⟨S160000x1, .i32⟩
  | 31 => ⟨S160000x40, .f32⟩
  | 32 => ⟨S160000x40, .f32⟩
  | 33 => ⟨S160000x40, .f32⟩
  | 34 => ⟨S_, .f32⟩
  | 35 => ⟨S10000x40, .f32⟩
  | 36 => ⟨S160000x1, .i32⟩
  | 37 => ⟨S10000x40, .f32⟩
  | 38 => ⟨S_, .f32⟩
  | 39 => ⟨S10000x40, .f32⟩
  | 40 => ⟨S10000x40, .f32⟩
  | 41 => ⟨S10000x40, .f32⟩
  | 42 => ⟨S1, .f32⟩
  | 43 => ⟨S_, .f32⟩
  | 44 => ⟨S10000x40, .f32⟩
  | 45 => ⟨S10000x40, .f32⟩
  | 46 => ⟨S10000x40, .f32⟩
  | 47 => ⟨S160000x1, .f32⟩
  | 48 => ⟨S_, .i32⟩
  | 49 => ⟨S160000, .i32⟩
  | 50 => ⟨S160000, .i1⟩
  | 51 => ⟨S_, .i32⟩
  | 52 => ⟨S160000, .i32⟩
  | 53 => ⟨S160000, .i32⟩
  | 54 => ⟨S160000, .i32⟩
  | 55 => ⟨S160000x1, .i32⟩
  | 56 => ⟨S160000x40, .f32⟩
  | 57 => ⟨S160000x40, .f32⟩
  | 58 => ⟨S160000x40, .f32⟩
  | 59 => ⟨S_, .f32⟩
  | 60 => ⟨S10000x40, .f32⟩
  | 61 => ⟨S160000x1, .i32⟩
  | 62 => ⟨S10000x40, .f32⟩
  | 63 => ⟨S_, .f32⟩
  | 64 => ⟨S10000x40, .f32⟩
  | 65 => ⟨S10000x40, .f32⟩
  | 66 => ⟨S10000x40, .f32⟩
  | 67 => ⟨S1, .f32⟩
  | 68 => ⟨S_, .f32⟩
  | 69 => ⟨S10000x40, .f32⟩
  | 70 => ⟨S10000x40, .f32⟩
  | 71 => ⟨S10000x40, .f32⟩
  | 72 => ⟨S160000x1, .f32⟩
  | 73 => ⟨S_, .i32⟩
  | 74 => ⟨S160000, .i32⟩
  | 75 => ⟨S160000, .i1⟩
  | 76 => ⟨S_, .i32⟩
  | 77 => ⟨S160000, .i32⟩
  | 78 => ⟨S160000, .i32⟩
  | 79 => ⟨S160000, .i32⟩
  | 80 => ⟨S160000x1, .i32⟩
  | 81 => ⟨S160000x40, .f32⟩
  | 82 => ⟨S160000x40, .f32⟩
  | 83 => ⟨S160000x40, .f32⟩
  | 84 => ⟨S_, .f32⟩
  | 85 => ⟨S10000x40, .f32⟩
  | 86 => ⟨S160000x1, .i32⟩
  | 87 => ⟨S10000x40, .f32⟩
  | 88 => ⟨S_, .f32⟩
  | 89 => ⟨S10000x40, .f32⟩
  | 90 => ⟨S10000x40, .f32⟩
  | 91 => ⟨S10000x40, .f32⟩
  | 92 => ⟨S1, .f32⟩
  | 93 => ⟨S_, .f32⟩
  | 94 => ⟨S10000x40, .f32⟩
  | 95 => ⟨S10000x40, .f32⟩
  | 96 => ⟨S10000x40, .f32⟩
  | 97 => ⟨S160000x1, .f32⟩
  | 98 => ⟨S_, .i32⟩
  | 99 => ⟨S160000, .i32⟩
  | 100 => ⟨S160000, .i1⟩
  | 101 => ⟨S_, .i32⟩
  | 102 => ⟨S160000, .i32⟩
  | 103 => ⟨S160000, .i32⟩
  | 104 => ⟨S160000, .i32⟩
  | 105 => ⟨S160000x1, .i32⟩
  | 106 => ⟨S160000x40, .f32⟩
  | 107 => ⟨S160000x40, .f32⟩
  | 108 => ⟨S160000x40, .f32⟩
  | 109 => ⟨S_, .f32⟩
  | 110 => ⟨S10000x40, .f32⟩
  | 111 => ⟨S160000x1, .i32⟩
  | 112 => ⟨S10000x40, .f32⟩
  | 113 => ⟨S_, .f32⟩
  | 114 => ⟨S10000x40, .f32⟩
  | 115 => ⟨S10000x40, .f32⟩
  | 116 => ⟨S10000x40, .f32⟩
  | 117 => ⟨S1, .f32⟩
  | 118 => ⟨S_, .f32⟩
  | 119 => ⟨S10000x40, .f32⟩
  | 120 => ⟨S10000x40, .f32⟩
  | 121 => ⟨S10000x40, .f32⟩
  | 122 => ⟨S160000x1, .f32⟩
  | 123 => ⟨S_, .i32⟩
  | 124 => ⟨S160000, .i32⟩
  | 125 => ⟨S160000, .i1⟩
  | 126 => ⟨S_, .i32⟩
  | 127 => ⟨S160000, .i32⟩
  | _ => ⟨S10000x256, .f32⟩

abbrev hbmTy0_2 (i : Nat) : BufTy := match i % 128 with
  | 0 => ⟨S160000, .i32⟩
  | 1 => ⟨S160000, .i32⟩
  | 2 => ⟨S160000x1, .i32⟩
  | 3 => ⟨S160000x40, .f32⟩
  | 4 => ⟨S160000x40, .f32⟩
  | 5 => ⟨S160000x40, .f32⟩
  | 6 => ⟨S_, .f32⟩
  | 7 => ⟨S10000x40, .f32⟩
  | 8 => ⟨S160000x1, .i32⟩
  | 9 => ⟨S10000x40, .f32⟩
  | 10 => ⟨S_, .f32⟩
  | 11 => ⟨S10000x40, .f32⟩
  | 12 => ⟨S10000x40, .f32⟩
  | 13 => ⟨S10000x40, .f32⟩
  | 14 => ⟨S1, .f32⟩
  | 15 => ⟨S_, .f32⟩
  | 16 => ⟨S10000x40, .f32⟩
  | 17 => ⟨S10000x40, .f32⟩
  | 18 => ⟨S10000x40, .f32⟩
  | 19 => ⟨S160000x1, .f32⟩
  | 20 => ⟨S_, .i32⟩
  | 21 => ⟨S160000, .i32⟩
  | 22 => ⟨S160000, .i1⟩
  | 23 => ⟨S_, .i32⟩
  | 24 => ⟨S160000, .i32⟩
  | 25 => ⟨S160000, .i32⟩
  | 26 => ⟨S160000, .i32⟩
  | 27 => ⟨S160000x1, .i32⟩
  | 28 => ⟨S160000x40, .f32⟩
  | 29 => ⟨S160000x40, .f32⟩
  | 30 => ⟨S160000x40, .f32⟩
  | 31 => ⟨S_, .f32⟩
  | 32 => ⟨S10000x40, .f32⟩
  | 33 => ⟨S160000x1, .i32⟩
  | 34 => ⟨S10000x40, .f32⟩
  | 35 => ⟨S_, .f32⟩
  | 36 => ⟨S10000x40, .f32⟩
  | 37 => ⟨S10000x40, .f32⟩
  | 38 => ⟨S10000x40, .f32⟩
  | 39 => ⟨S1, .f32⟩
  | 40 => ⟨S_, .f32⟩
  | 41 => ⟨S10000x40, .f32⟩
  | 42 => ⟨S10000x40, .f32⟩
  | 43 => ⟨S10000x40, .f32⟩
  | 44 => ⟨S10000x40, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x512, .f32⟩
  | .local _ .vmem, ⟨3, _⟩ => ⟨S1x512, .f32⟩
  | .local _ .vmem, ⟨4, _⟩ => ⟨S512x40, .f32⟩
  | .local _ .vmem, ⟨5, _⟩ => ⟨S1x40, .f32⟩
  | .local _ .vmem, ⟨6, _⟩ => ⟨S1000x40, .f32⟩
  | .local _ .vmem, ⟨7, _⟩ => ⟨S1000x40, .f32⟩
  | .local _ .vmem, ⟨8, _⟩ => ⟨S1000x40, .f32⟩
  | .local _ .vmem, ⟨9, _⟩ => ⟨S1000x40, .f32⟩
  | .local _ .vmem, ⟨10, _⟩ => ⟨S1000x40, .f32⟩
  | .local _ .vmem, ⟨11, _⟩ => ⟨S1000x40, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_19 : Ref sig .tc := ⟨.hbm, 126, rfl⟩
abbrev main_v94 : Ref sig .tc := ⟨.hbm, 127, rfl⟩
abbrev main_v95 : Ref sig .tc := ⟨.hbm, 128, rfl⟩
abbrev main_c_20 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_21 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_22 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_23 : Ref sig .tc := ⟨.hbm, 151, rfl⟩
abbrev main_v115 : Ref sig .tc := ⟨.hbm, 152, rfl⟩
abbrev main_v116 : Ref sig .tc := ⟨.hbm, 153, rfl⟩
abbrev main_c_24 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_25 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_26 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_c_27 : Ref sig .tc := ⟨.hbm, 176, rfl⟩
abbrev main_v136 : Ref sig .tc := ⟨.hbm, 177, rfl⟩
abbrev main_v137 : Ref sig .tc := ⟨.hbm, 178, rfl⟩
abbrev main_c_28 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_29 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_cst_30 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_c_31 : Ref sig .tc := ⟨.hbm, 201, rfl⟩
abbrev main_v157 : Ref sig .tc := ⟨.hbm, 202, rfl⟩
abbrev main_v158 : Ref sig .tc := ⟨.hbm, 203, rfl⟩
abbrev main_c_32 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_cst_33 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_34 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_c_35 : Ref sig .tc := ⟨.hbm, 226, rfl⟩
abbrev main_v178 : Ref sig .tc := ⟨.hbm, 227, rfl⟩
abbrev main_v179 : Ref sig .tc := ⟨.hbm, 228, rfl⟩
abbrev main_c_36 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_37 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_cst_38 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_c_39 : Ref sig .tc := ⟨.hbm, 251, rfl⟩
abbrev main_v199 : Ref sig .tc := ⟨.hbm, 252, rfl⟩
abbrev main_v200 : Ref sig .tc := ⟨.hbm, 253, rfl⟩
abbrev main_c_40 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_cst_41 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_cst_42 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_c_43 : Ref sig .tc := ⟨.hbm, 276, rfl⟩
abbrev main_v220 : Ref sig .tc := ⟨.hbm, 277, rfl⟩
abbrev main_v221 : Ref sig .tc := ⟨.hbm, 278, rfl⟩
abbrev main_c_44 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_cst_45 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_cst_46 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x40 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S10000x256 : Shape := ⟨2, ![10000, 256]⟩
abbrev S2x160000 : Shape := ⟨2, ![2, 160000]⟩
abbrev S160000 : Shape := ⟨1, ![160000]⟩
abbrev S256x512 : Shape := ⟨2, ![256, 512]⟩
abbrev S512 : Shape := ⟨1, ![512]⟩
abbrev S512x40 : Shape := ⟨2, ![512, 40]⟩
abbrev S40 : Shape := ⟨1, ![40]⟩
abbrev S11 : Shape := ⟨1, ![11]⟩
abbrev S10000x512 : Shape := ⟨2, ![10000, 512]⟩
abbrev S1x512 : Shape := ⟨2, ![1, 512]⟩
abbrev S_ : Shape := ⟨0, ![]⟩
abbrev S10000x40 : Shape := ⟨2, ![10000, 40]⟩
abbrev S1x40 : Shape := ⟨2, ![1, 40]⟩
abbrev S1x160000 : Shape := ⟨2, ![1, 160000]⟩
abbrev S10000 : Shape := ⟨1, ![10000]⟩
abbrev S160000x1 : Shape := ⟨2, ![160000, 1]⟩
abbrev S160000x40 : Shape := ⟨2, ![160000, 40]⟩
abbrev S1 : Shape := ⟨1, ![1]⟩
abbrev S10000x1 : Shape := ⟨2, ![10000, 1]⟩

abbrev nBuf : Space → Nat
  | .hbm => 338
  | .vmem => 0
  | .smem => 0
  | _ => 0

abbrev hbmTy0_0 (i : Nat) : BufTy := match i % 128 with
  | 0 => ⟨S10000x256, .f32⟩
  | 1 => ⟨S2x160000, .i32⟩
  | 2 => ⟨S160000, .f32⟩
  | 3 => ⟨S256x512, .f32⟩
  | 4 => ⟨S512, .f32⟩
  | 5 => ⟨S512x40, .f32⟩
  | 6 => ⟨S40, .f32⟩
  | 7 => ⟨S11, .f32⟩
  | 8 => ⟨S10000x512, .f32⟩
  | 9 => ⟨S1x512, .f32⟩
  | 10 => ⟨S10000x512, .f32⟩
  | 11 => ⟨S10000x512, .f32⟩
  | 12 => ⟨S10000x512, .f32⟩
  | 13 => ⟨S10000x512, .f32⟩
  | 14 => ⟨S_, .f32⟩
  | 15 => ⟨S10000x512, .f32⟩
  | 16 => ⟨S10000x512, .f32⟩
  | 17 => ⟨S_, .f32⟩
  | 18 => ⟨S10000x512, .f32⟩
  | 19 => ⟨S10000x512, .f32⟩
  | 20 => ⟨S10000x512, .f32⟩
  | 21 => ⟨S10000x40, .f32⟩
  | 22 => ⟨S1x40, .f32⟩
  | 23 => ⟨S10000x40, .f32⟩
  | 24 => ⟨S10000x40, .f32⟩
  | 25 => ⟨S10000x40, .f32⟩
  | 26 => ⟨S10000x40, .f32⟩
  | 27 => ⟨S_, .f32⟩
  | 28 => ⟨S10000x40, .f32⟩
  | 29 => ⟨S10000x40, .f32⟩
  | 30 => ⟨S_, .f32⟩
  | 31 => ⟨S10000x40, .f32⟩
  | 32 => ⟨S10000x40, .f32⟩
  | 33 => ⟨S10000x40, .f32⟩
  | 34 => ⟨S1x160000, .i32⟩
  | 35 => ⟨S160000, .i32⟩
  | 36 => ⟨S1x160000, .i32⟩
  | 37 => ⟨S160000, .i32⟩
  | 38 => ⟨S_, .f32⟩
  | 39 => ⟨S10000, .f32⟩
  | 40 => ⟨S160000x1, .i32⟩
  | 41 => ⟨S10000, .f32⟩
  | 42 => ⟨S_, .f32⟩
  | 43 => ⟨S10000, .f32⟩
  | 44 => ⟨S10000, .i1⟩
  | 45 => ⟨S_, .f32⟩
  | 46 => ⟨S_, .f32⟩
  | 47 => ⟨S10000, .f32⟩
  | 48 => ⟨S10000, .f32⟩
  | 49 => ⟨S_, .f32⟩
  | 50 => ⟨S10000, .f32⟩
  | 51 => ⟨S10000, .i1⟩
  | 52 => ⟨S10000, .f32⟩
  | 53 => ⟨S_, .f32⟩
  | 54 => ⟨S_, .f32⟩
  | 55 => ⟨S10000, .f32⟩
  | 56 => ⟨S10000, .f32⟩
  | 57 => ⟨S_, .i32⟩
  | 58 => ⟨S160000, .i32⟩
  | 59 => ⟨S160000, .i1⟩
  | 60 => ⟨S_, .i32⟩
  | 61 => ⟨S160000, .i32⟩
  | 62 => ⟨S160000, .i32⟩
  | 63 => ⟨S160000, .i32⟩
  | 64 => ⟨S160000x1, .i32⟩
  | 65 => ⟨S160000, .f32⟩
  | 66 => ⟨S160000, .f32⟩
  | 67 => ⟨S_, .i32⟩
  | 68 => ⟨S160000, .i32⟩
  | 69 => ⟨S160000, .i1⟩
  | 70 => ⟨S_, .i32⟩
  | 71 => ⟨S160000, .i32⟩
  | 72 => ⟨S160000, .i32⟩
  | 73 => ⟨S160000, .i32⟩
  | 74 => ⟨S160000x1, .i32⟩
  | 75 => ⟨S160000, .f32⟩
  | 76 => ⟨S160000, .f32⟩
  | 77 => ⟨S160000x1, .f32⟩
  | 78 => ⟨S_, .i32⟩
  | 79 => ⟨S160000, .i32⟩
  | 80 => ⟨S160000, .i1⟩
  | 81 => ⟨S_, .i32⟩
  | 82 => ⟨S160000, .i32⟩
  | 83 => ⟨S160000, .i32⟩
  | 84 => ⟨S160000, .i32⟩
  | 85 => ⟨S160000x1, .i32⟩
  | 86 => ⟨S160000x40, .f32⟩
  | 87 => ⟨S160000x40, .f32⟩
  | 88 => ⟨S160000x40, .f32⟩
  | 89 => ⟨S_, .f32⟩
  | 90 => ⟨S10000x40, .f32⟩
  | 91 => ⟨S160000x1, .i32⟩
  | 92 => ⟨S10000x40, .f32⟩
  | 93 => ⟨S1, .f32⟩
  | 94 => ⟨S_, .f32⟩
  | 95 => ⟨S10000x40, .f32⟩
  | 96 => ⟨S10000x40, .f32⟩
  | 97 => ⟨S10000x40, .f32⟩
  | 98 => ⟨S160000x1, .f32⟩
  | 99 => ⟨S_, .i32⟩
  | 100 => ⟨S160000, .i32⟩
  | 101 => ⟨S160000, .i1⟩
  | 102 => ⟨S_, .i32⟩
  | 103 => ⟨S160000, .i32⟩
  | 104 => ⟨S160000, .i32⟩
  | 105 => ⟨S160000, .i32⟩
  | 106 => ⟨S160000x1, .i32⟩
  | 107 => ⟨S160000x40, .f32⟩
  | 108 => ⟨S160000x40, .f32⟩
  | 109 => ⟨S160000x40, .f32⟩
  | 110 => ⟨S_, .f32⟩
  | 111 => ⟨S10000x40, .f32⟩
  | 112 => ⟨S160000x1, .i32⟩
  | 113 => ⟨S10000x40, .f32⟩
  | 114 => ⟨S_, .f32⟩
  | 115 => ⟨S10000x40, .f32⟩
  | 116 => ⟨S10000x40, .f32⟩
  | 117 => ⟨S10000x40, .f32⟩
  | 118 => ⟨S1, .f32⟩
  | 119 => ⟨S_, .f32⟩
  | 120 => ⟨S10000x40, .f32⟩
  | 121 => ⟨S10000x40, .f32⟩
  | 122 => ⟨S10000x40, .f32⟩
  | 123 => ⟨S160000x1, .f32⟩
  | 124 => ⟨S_, .i32⟩
  | 125 => ⟨S160000, .i32⟩
  | 126 => ⟨S160000, .i1⟩
  | 127 => ⟨S_, .i32⟩
  | _ => ⟨S10000x256, .f32⟩

abbrev hbmTy0_1 (i : Nat) : BufTy := match i % 128 with
  | 0 => ⟨S160000, .i32⟩
  | 1 => ⟨S160000, .i32⟩
  | 2 => ⟨S160000, .i32⟩
  | 3 => ⟨S160000x1, .i32⟩
  | 4 => ⟨S160000x40, .f32⟩
  | 5 => ⟨S160000x40, .f32⟩
  | 6 => ⟨S160000x40, .f32⟩
  | 7 => ⟨S_, .f32⟩
  | 8 => ⟨S10000x40, .f32⟩
  | 9 => ⟨S160000x1, .i32⟩
  | 10 => ⟨S10000x40, .f32⟩
  | 11 => ⟨S_, .f32⟩
  | 12 => ⟨S10000x40, .f32⟩
  | 13 => ⟨S10000x40, .f32⟩
  | 14 => ⟨S10000x40, .f32⟩
  | 15 => ⟨S1, .f32⟩
  | 16 => ⟨S_, .f32⟩
  | 17 => ⟨S10000x40, .f32⟩
  | 18 => ⟨S10000x40, .f32⟩
  | 19 => ⟨S10000x40, .f32⟩
  | 20 => ⟨S160000x1, .f32⟩
  | 21 => ⟨S_, .i32⟩
  | 22 => ⟨S160000, .i32⟩
  | 23 => ⟨S160000, .i1⟩
  | 24 => ⟨S_, .i32⟩
  | 25 => ⟨S160000, .i32⟩
  | 26 => ⟨S160000, .i32⟩
  | 27 => ⟨S160000, .i32⟩
  | 28 => ⟨S160000x1, .i32⟩
  | 29 => ⟨S160000x40, .f32⟩
  | 30 => ⟨S160000x40, .f32⟩
  | 31 => ⟨S160000x40, .f32⟩
  | 32 => ⟨S_, .f32⟩
  | 33 => ⟨S10000x40, .f32⟩
  | 34 => ⟨S160000x1, .i32⟩
  | 35 => ⟨S10000x40, .f32⟩
  | 36 => ⟨S_, .f32⟩
  | 37 => ⟨S10000x40, .f32⟩
  | 38 => ⟨S10000x40, .f32⟩
  | 39 => ⟨S10000x40, .f32⟩
  | 40 => ⟨S1, .f32⟩
  | 41 => ⟨S_, .f32⟩
  | 42 => ⟨S10000x40, .f32⟩
  | 43 => ⟨S10000x40, .f32⟩
  | 44 => ⟨S10000x40, .f32⟩
  | 45 => ⟨S160000x1, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x40, .f32⟩
  | 55 => ⟨S160000x40, .f32⟩
  | 56 => ⟨S160000x40, .f32⟩
  | 57 => ⟨S_, .f32⟩
  | 58 => ⟨S10000x40, .f32⟩
  | 59 => ⟨S160000x1, .i32⟩
  | 60 => ⟨S10000x40, .f32⟩
  | 61 => ⟨S_, .f32⟩
  | 62 => ⟨S10000x40, .f32⟩
  | 63 => ⟨S10000x40, .f32⟩
  | 64 => ⟨S10000x40, .f32⟩
  | 65 => ⟨S1, .f32⟩
  | 66 => ⟨S_, .f32⟩
  | 67 => ⟨S10000x40, .f32⟩
  | 68 => ⟨S10000x40, .f32⟩
  | 69 => ⟨S10000x40, .f32⟩
  | 70 => ⟨S160000x1, .f32⟩
  | 71 => ⟨S_, .i32⟩
  | 72 => ⟨S160000, .i32⟩
  | 73 => ⟨S160000, .i1⟩
  | 74 => ⟨S_, .i32⟩
  | 75 => ⟨S160000, .i32⟩
  | 76 => ⟨S160000, .i32⟩
  | 77 => ⟨S160000, .i32⟩
  | 78 => ⟨S160000x1, .i32⟩
  | 79 => ⟨S160000x40, .f32⟩
  | 80 => ⟨S160000x40, .f32⟩
  | 81 => ⟨S160000x40, .f32⟩
  | 82 => ⟨S_, .f32⟩
  | 83 => ⟨S10000x40, .f32⟩
  | 84 => ⟨S160000x1, .i32⟩
  | 85 => ⟨S10000x40, .f32⟩
  | 86 => ⟨S_, .f32⟩
  | 87 => ⟨S10000x40, .f32⟩
  | 88 => ⟨S10000x40, .f32⟩
  | 89 => ⟨S10000x40, .f32⟩
  | 90 => ⟨S1, .f32⟩
  | 91 => ⟨S_, .f32⟩
  | 92 => ⟨S10000x40, .f32⟩
  | 93 => ⟨S10000x40, .f32⟩
  | 94 => ⟨S10000x40, .f32⟩
  | 95 => ⟨S160000x1, .f32⟩
  | 96 => ⟨S_, .i32⟩
  | 97 => ⟨S160000, .i32⟩
  | 98 => ⟨S160000, .i1⟩
  | 99 => ⟨S_, .i32⟩
  | 100 => ⟨S160000, .i32⟩
  | 101 => ⟨S160000, .i32⟩
  | 102 => ⟨S160000, .i32⟩
  | 103 => ⟨S160000x1, .i32⟩
  | 104 => ⟨S160000x40, .f32⟩
  | 105 => ⟨S160000x40, .f32⟩
  | 106 => ⟨S160000x40, .f32⟩
  | 107 => ⟨S_, .f32⟩
  | 108 => ⟨S10000x40, .f32⟩
  | 109 => ⟨S160000x1, .i32⟩
  | 110 => ⟨S10000x40, .f32⟩
  | 111 => ⟨S_, .f32⟩
  | 112 => ⟨S10000x40, .f32⟩
  | 113 => ⟨S10000x40, .f32⟩
  | 114 => ⟨S10000x40, .f32⟩
  | 115 => ⟨S1, .f32⟩
  | 116 => ⟨S_, .f32⟩
  | 117 => ⟨S10000x40, .f32⟩
  | 118 => ⟨S10000x40, .f32⟩
  | 119 => ⟨S10000x40, .f32⟩
  | 120 => ⟨S160000x1, .f32⟩
  | 121 => ⟨S_, .i32⟩
  | 122 => ⟨S160000, .i32⟩
  | 123 => ⟨S160000, .i1⟩
  | 124 => ⟨S_, .i32⟩
  | 125 => ⟨S160000, .i32⟩
  | 126 => ⟨S160000, .i32⟩
  | 127 => ⟨S160000, .i32⟩
  | _ => ⟨S10000x256, .f32⟩

abbrev hbmTy0_2 (i : Nat) : BufTy := match i % 128 with
  | 0 => ⟨S160000x1, .i32⟩
  | 1 => ⟨S160000x40, .f32⟩
  | 2 => ⟨S160000x40, .f32⟩
  | 3 => ⟨S160000x40, .f32⟩
  | 4 => ⟨S_, .f32⟩
  | 5 => ⟨S10000x40, .f32⟩
  | 6 => ⟨S160000x1, .i32⟩
  | 7 => ⟨S10000x40, .f32⟩
  | 8 => ⟨S_, .f32⟩
  | 9 => ⟨S10000x40, .f32⟩
  | 10 => ⟨S10000x40, .f32⟩
  | 11 => ⟨S10000x40, .f32⟩
  | 12 => ⟨S1, .f32⟩
  | 13 => ⟨S_, .f32⟩
  | 14 => ⟨S10000x40, .f32⟩
  | 15 => ⟨S10000x40, .f32⟩
  | 16 => ⟨S10000x40, .f32⟩
  | 17 => ⟨S160000x1, .f32⟩
  | 18 => ⟨S_, .i32⟩
  | 19 => ⟨S160000, .i32⟩
  | 20 => ⟨S160000, .i1⟩
  | 21 => ⟨S_, .i32⟩
  | 22 => ⟨S160000, .i32⟩
  | 23 => ⟨S160000, .i32⟩
  | 24 => ⟨S160000, .i32⟩
  | 25 => ⟨S160000x1, .i32⟩
  | 26 => ⟨S160000x40, .f32⟩
  | 27 => ⟨S160000x40, .f32⟩
  | 28 => ⟨S160000x40, .f32⟩
  | 29 => ⟨S_, .f32⟩
  | 30 => ⟨S10000x40, .f32⟩
  | 31 => ⟨S160000x1, .i32⟩
  | 32 => ⟨S10000x40, .f32⟩
  | 33 => ⟨S_, .f32⟩
  | 34 => ⟨S10000x40, .f32⟩
  | 35 => ⟨S10000x40, .f32⟩
  | 36 => ⟨S10000x40, .f32⟩
  | 37 => ⟨S1, .f32⟩
  | 38 => ⟨S_, .f32⟩
  | 39 => ⟨S10000x40, .f32⟩
  | 40 => ⟨S10000x40, .f32⟩
  | 41 => ⟨S10000x40, .f32⟩
  | 42 => ⟨S160000x1, .f32⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S160000x40, .f32⟩
  | 52 => ⟨S160000x40, .f32⟩
  | 53 => ⟨S160000x40, .f32⟩
  | 54 => ⟨S_, .f32⟩
  | 55 => ⟨S10000x40, .f32⟩
  | 56 => ⟨S160000x1, .i32⟩
  | 57 => ⟨S10000x40, .f32⟩
  | 58 => ⟨S_, .f32⟩
  | 59 => ⟨S10000x40, .f32⟩
  | 60 => ⟨S10000x40, .f32⟩
  | 61 => ⟨S10000x40, .f32⟩
  | 62 => ⟨S1, .f32⟩
  | 63 => ⟨S_, .f32⟩
  | 64 => ⟨S10000x40, .f32⟩
  | 65 => ⟨S10000x40, .f32⟩
  | 66 => ⟨S10000x40, .f32⟩
  | 67 => ⟨S_, .f32⟩
  | 68 => ⟨S10000, .f32⟩
  | 69 => ⟨S_, .f32⟩
  | 70 => ⟨S10000, .f32⟩
  | 71 => ⟨S10000, .f32⟩
  | 72 => ⟨S10000x1, .f32⟩
  | 73 => ⟨S10000x40, .f32⟩
  | 74 => ⟨S10000x40, .f32⟩
  | 75 => ⟨S10000x40, .f32⟩
  | 76 => ⟨S_, .f32⟩
  | 77 => ⟨S10000, .f32⟩
  | 78 => ⟨S10000x1, .f32⟩
  | 79 => ⟨S10000x1, .f32⟩
  | 80 => ⟨S10000x40, .f32⟩
  | 81 => ⟨S10000x40, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_call2_v0 : Ref sig .tc := ⟨.hbm, 46, rfl⟩
abbrev main_call2_v1 : Ref sig .tc := ⟨.hbm, 47, rfl⟩
abbrev main_v19 : Ref sig .tc := ⟨.hbm, 48, rfl⟩
abbrev main_cst_3 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_4 : Ref sig .tc := ⟨.hbm, 53, rfl⟩
abbrev main_call3_v0 : Ref sig .tc := ⟨.hbm, 54, rfl⟩
abbrev main_call3_v1 : Ref sig .tc := ⟨.hbm, 55, rfl⟩
abbrev main_v23 : Ref sig .tc := ⟨.hbm, 56, rfl⟩
abbrev main_c : Ref sig .tc := ⟨.hbm, 57, rfl⟩
abbrev main_v24 : Ref sig .tc := ⟨.hbm, 58, rfl⟩
abbrev main_v25 : Ref sig .tc := ⟨.hbm, 59, rfl⟩
abbrev main_c_5 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_6 : Ref sig .tc := ⟨.hbm, 67, rfl⟩
abbrev main_v32 : Ref sig .tc := ⟨.hbm, 68, rfl⟩
abbrev main_v33 : Ref sig .tc := ⟨.hbm, 69, rfl⟩
abbrev main_c_7 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_8 : Ref sig .tc := ⟨.hbm, 78, rfl⟩
abbrev main_v41 : Ref sig .tc := ⟨.hbm, 79, rfl⟩
abbrev main_v42 : Ref sig .tc := ⟨.hbm, 80, rfl⟩
abbrev main_c_9 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_10 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_11 : Ref sig .tc := ⟨.hbm, 99, rfl⟩
abbrev main_v59 : Ref sig .tc := ⟨.hbm, 100, rfl⟩
abbrev main_v60 : Ref sig .tc := ⟨.hbm, 101, rfl⟩
abbrev main_c_12 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_13 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_14 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_c_15 : Ref sig .tc := ⟨.hbm, 124, rfl⟩
abbrev main_v80 : Ref sig .tc := ⟨.hbm, 125, rfl⟩
abbrev main_v81 : Ref sig .tc := ⟨.hbm, 126, rfl⟩
abbrev main_c_16 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_17 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_18 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_c_19 : Ref sig .tc := ⟨.hbm, 149, rfl⟩
abbrev main_v101 : Ref sig .tc := ⟨.hbm, 150, rfl⟩
abbrev main_v102 : Ref sig .tc := ⟨.hbm, 151, rfl⟩
abbrev main_c_20 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_21 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_22 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_c_23 : Ref sig .tc := ⟨.hbm, 174, rfl⟩
abbrev main_v122 : Ref sig .tc := ⟨.hbm, 175, rfl⟩
abbrev main_v123 : Ref sig .tc := ⟨.hbm, 176, rfl⟩
abbrev main_c_24 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_25 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_26 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_c_27 : Ref sig .tc := ⟨.hbm, 199, rfl⟩
abbrev main_v143 : Ref sig .tc := ⟨.hbm, 200, rfl⟩
abbrev main_v144 : Ref sig .tc := ⟨.hbm, 201, rfl⟩
abbrev main_c_28 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_29 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_30 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_c_31 : Ref sig .tc := ⟨.hbm, 224, rfl⟩
abbrev main_v164 : Ref sig .tc := ⟨.hbm, 225, rfl⟩
abbrev main_v165 : Ref sig .tc := ⟨.hbm, 226, rfl⟩
abbrev main_c_32 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_cst_33 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_34 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_c_35 : Ref sig .tc := ⟨.hbm, 249, rfl⟩
abbrev main_v185 : Ref sig .tc := ⟨.hbm, 250, rfl⟩
abbrev main_v186 : Ref sig .tc := ⟨.hbm, 251, rfl⟩
abbrev main_c_36 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_cst_37 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_cst_38 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_c_39 : Ref sig .tc := ⟨.hbm, 274, rfl⟩
abbrev main_v206 : Ref sig .tc := ⟨.hbm, 275, rfl⟩
abbrev main_v207 : Ref sig .tc := ⟨.hbm, 276, rfl⟩
abbrev main_c_40 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_cst_41 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_cst_42 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_c_43 : Ref sig .tc := ⟨.hbm, 299, rfl⟩
abbrev main_v227 : Ref sig .tc := ⟨.hbm, 300, rfl⟩
abbrev main_v228 : Ref sig .tc := ⟨.hbm, 301, rfl⟩
abbrev main_c_44 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_cst_45 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_cst_46 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_call4_cst : Ref sig .tc := ⟨.hbm, 323, rfl⟩
abbrev main_call4_v0 : Ref sig .tc := ⟨.hbm, 324, rfl⟩
abbrev main_call4_cst_0 : Ref sig .tc := ⟨.hbm, 325, rfl⟩
abbrev main_call4_v1 : Ref sig .tc := ⟨.hbm, 326, rfl⟩
abbrev main_call4_v2 : Ref sig .tc := ⟨.hbm, 327, rfl⟩
abbrev main_call4_v3 : Ref sig .tc := ⟨.hbm, 328, rfl⟩
abbrev main_call4_v4 : Ref sig .tc := ⟨.hbm, 329, rfl⟩
abbrev main_call4_v5 : Ref sig .tc := ⟨.hbm, 330, rfl⟩
abbrev main_call4_v6 : Ref sig .tc := ⟨.hbm, 331, rfl⟩
abbrev main_call4_cst_1 : Ref sig .tc := ⟨.hbm, 332, rfl⟩
abbrev main_call4_v7 : Ref sig .tc := ⟨.hbm, 333, rfl⟩
abbrev main_call4_v8 : Ref sig .tc := ⟨.hbm, 334, rfl⟩
abbrev main_call4_v9 : Ref sig .tc := ⟨.hbm, 335, rfl⟩
abbrev main_call4_v10 : Ref sig .tc := ⟨.hbm, 336, rfl⟩
abbrev main_v247 : Ref sig .tc := ⟨.hbm, 337, rfl⟩

abbrev nD : Nat := 1
abbrev τ : Topo := Topo.v7x

variable {F : FTy → Type} [FloatOps F]
-- ==== Proof.RefTerms.lean ====
/-
  The reference's two dense layers and its log-softmax as functions of the arrays they read.
-/
module

public import proofs.«01_k».proof.Proof.Gen.ReferenceIdeal

@[expose] public section

noncomputable section

namespace Cert.ReferenceIdeal.RefTerms

open Cert.ReferenceIdeal Cert.ReferenceIdeal.Gen Idealize.ShloMosaic

variable {F : FTy → Type} [FloatOps F]

/-- The first layer before its activation: the features times the weights, plus the bias in every row. -/
def dense1 (x : Vec F S10000x256 .f32) (w : Vec F S256x512 .f32) (b : Vec F S512 .f32) : Vec F S10000x512 .f32 :=
  addf (Host.dotGeneral dot_S10000x256_S256x512_S10000x512_1_0_0_1_n_n none x w)
    (broadcastInDim S10000x512 ![0, 1] bcast_S1x512_S10000x512_0_1 (broadcastInDim S1x512 ![1] bcast_S512_S1x512_1 b))

/-- The first layer's activation, `a · 1 / (1 + exp (-a))`. -/
def silu1 (a : Vec F S10000x512 .f32) : Vec F S10000x512 .f32 :=
  mulf a (Host.divf (broadcastInDim S10000x512 ![] bcast_S_S10000x512 (constant S_ .f32 0x3F800000#32))
    (addf (broadcastInDim S10000x512 ![] bcast_S_S10000x512 (constant S_ .f32 0x3F800000#32)) (Host.exp (Host.negf a))))

/-- The second layer before its activation. -/
def dense2 (x : Vec F S10000x512 .f32) (w : Vec F S512x40 .f32) (b : Vec F S40 .f32) : Vec F S10000x40 .f32 :=
  addf (Host.dotGeneral dot_S10000x512_S512x40_S10000x40_1_0_0_1_n_n none x w)
    (broadcastInDim S10000x40 ![0, 1] bcast_S1x40_S10000x40_0_1 (broadcastInDim S1x40 ![1] bcast_S40_S1x40_1 b))

/-- The second layer's activation. -/
def silu2 (a : Vec F S10000x40 .f32) : Vec F S10000x40 .f32 :=
  mulf a (Host.divf (broadcastInDim S10000x40 ![] bcast_S_S10000x40 (constant S_ .f32 0x3F800000#32))
    (addf (broadcastInDim S10000x40 ![] bcast_S_S10000x40 (constant S_ .f32 0x3F800000#32)) (Host.exp (Host.negf a))))

/-- The two dense layers. -/
def mlp (x : Vec F S10000x256 .f32) (w1 : Vec F S256x512 .f32) (b1 : Vec F S512 .f32) (w2 : Vec F S512x40 .f32)
    (b2 : Vec F S40 .f32) : Vec F S10000x40 .f32 :=
  silu2 (dense2 (silu1 (dense1 x w1 b1)) w2 b2)

/-- Every logit less its row's maximum, the maximum first taken with minus infinity. -/
def shifted (x : Vec F S10000x40 .f32) : Vec F S10000x40 .f32 :=
  subf x (broadcastInDim S10000x40 ![0, 1] bcast_S10000x1_S10000x40_0_1 (broadcastInDim S10000x1 ![0] bcast_S10000_S10000x1_0
    (maximumf (broadcastInDim S10000 ![] bcast_S_S10000 (constant S_ .f32 0xFF800000#32))
      (Host.reduce FloatOps.maximumf x (constant S_ .f32 0xFF800000#32) reducesTo_S10000x40_S10000_d1 h_S_))))

/-- The row-wise log-softmax. -/
def logSoftmax (x : Vec F S10000x40 .f32) : Vec F S10000x40 .f32 :=
  subf (shifted x) (broadcastInDim S10000x40 ![0, 1] bcast_S10000x1_S10000x40_0_1 (Host.log (broadcastInDim S10000x1 ![0] bcast_S10000_S10000x1_0
    (Host.reduceAdd (Host.exp (shifted x)) (constant S_ .f32 0x00000000#32) reducesTo_S10000x40_S10000_d1 h_S_))))

end Cert.ReferenceIdeal.RefTerms

end
-- ==== Proof.MlpBlock.lean ====
/-
  What the first region leaves: the two dense layers of the whole feature array, block of rows by block of rows.
-/
module

public import proofs.«01_k».proof.Proof.RefTerms
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.MlpBlock

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.RefTerms (mlp dense1 dense2 silu1 silu2)

variable (V : (c : Dev nD) → (b : Ref sig .tc) → Buf (Elt Ideal) ((c : Thread nD τ).loc b))

/-- At point `t` the features and the result are at their `t`-th block of rows; the weights and biases are whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- A block's rows through the two layers are the whole array's rows through them, at the block's place. Each bias is
    the one row of the array the region reads it from. -/
theorem point (c : Dev nD) (t : Fin cfg0.N) (y : S1000x40.Idx) :
    k0_pay1 (F := Ideal) (iblk0 V c 0 t) (iblk0 V c 1 t) (iblk0 V c 2 t) (iblk0 V c 3 t) (iblk0 V c 4 t) y
      = mlp (F := Ideal) (V c main_arg0) (V c main_arg3) (fun i => V c main_v0 (ix2 0 (i 0))) (V c main_arg5)
          (fun i => V c main_v1 (ix2 0 (i 0))) (((cfg0.win 5).blk t).view.emb y) := by
  pointwise [k0_pay1, mlp, dense1, dense2, silu1, silu2, Ideal.logistic]
  blk_point [iblk0, idx t]

/-- The first region's result array is the two layers of the arrays it is entered with. -/
theorem result (c : Dev nD) :
    (dat0 V c).arrAt 5 cfg0.N = mlp (F := Ideal) (V c main_arg0) (V c main_arg3) (fun i => V c main_v0 (ix2 0 (i 0))) (V c main_arg5)
      (fun i => V c main_v1 (ix2 0 (i 0))) := by
  refine (dat0 V c).arrAt_eq_of_covers 5 _ (by decide +kernel) fun t _ y => ?_
  blk_simp
  rw [after0_5]; frame_out
  exact point V c t y

variable (m : (ℓ : Loc nD τ sig) → Buf (Elt Ideal) ℓ) (ρ : Dev nD → PrngReg)

/-- The first bias row the host hands to the region is the first bias argument. -/
theorem bias1 (c : Dev nD) :
    (fun i => V1 m ρ c main_v0 (ix2 0 (i 0)) : Vec Ideal S512 .f32) = m ((c : Thread nD τ).loc main_arg4) := by
  funext i
  idx_vars i
  simp only [V1]
  after_results
  pointwise

/-- The second bias row likewise. -/
theorem bias2 (c : Dev nD) :
    (fun i => V1 m ρ c main_v1 (ix2 0 (i 0)) : Vec Ideal S40 .f32) = m ((c : Thread nD τ).loc main_arg6) := by
  funext i
  idx_vars i
  simp only [V1]
  after_results
  pointwise

/-- After the first region, its result array is the two layers of the program's arguments. -/
theorem hidden (c : Dev nD) :
    W2 m ρ c (Proc.devRef .tc main_v2) = mlp (F := Ideal) (m ((c : Thread nD τ).loc main_arg0)) (m ((c : Thread nD τ).loc main_arg3))
      (m ((c : Thread nD τ).loc main_arg4)) (m ((c : Thread nD τ).loc main_arg5)) (m ((c : Thread nD τ).loc main_arg6)) := by
  refine (W2_arr m ρ c 5).trans ((result (V1 m ρ) c).trans ?_)
  rw [bias1, bias2]
  rfl

end Cert.KernelIdeal.MlpBlock

end
-- ==== Proof.SoftmaxBlock.lean ====
/-
  What the second region leaves: the row-wise log-softmax of the whole array, block of rows by block of rows.
-/
module

public import proofs.«01_k».proof.Proof.RefTerms
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.SoftmaxBlock

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.RefTerms (logSoftmax shifted)

variable (V : (c : Dev nD) → (b : Ref sig .tc) → Buf (Elt Ideal) ((c : Thread nD τ).loc b))

/-- At point `t` the logits and the result are at their `t`-th block of rows. -/
theorem idx : ∀ t : Fin cfg1.N, win1_0.index t = ![t.val, 0] ∧ win1_1.index t = ![t.val, 0] :=
  (by decide +kernel : ∀ t : Fin grid1.N, _)

/-- A maximum folded from `b` is unchanged by one more maximum with `b`. -/
theorem max_fold (b : EReal) (f : Fin 40 → EReal) : max b (Finset.univ.fold max b f) = Finset.univ.fold max b f :=
  max_eq_right ((Finset.le_fold_max _).2 (.inl le_rfl))

/-- A block's rows through the log-softmax are the whole array's rows through it, at the block's place: a maximum already
    folded from minus infinity is unchanged by one more maximum with it. -/
theorem point (c : Dev nD) (t : Fin cfg1.N) (y : S1000x40.Idx) :
    k1_pay1 (F := Ideal) (iblk1 V c 0 t) y = logSoftmax (F := Ideal) (V c main_v239) (((cfg1.win 1).blk t).view.emb y) := by
  pointwise [k1_pay1, logSoftmax, shifted, max_fold]
  blk_point [iblk1, idx t]

/-- The second region's result array is the log-softmax of the logits it is entered with. -/
theorem result (c : Dev nD) : (dat1 V c).arrAt 1 cfg1.N = logSoftmax (F := Ideal) (V c main_v239) := by
  refine (dat1 V c).arrAt_eq_of_covers 1 _ (by decide +kernel) fun t _ y => ?_
  blk_simp
  rw [after1_1]; frame_out
  exact point V c t y

end Cert.KernelIdeal.SoftmaxBlock

end
-- ==== Proof.Graph.lean ====
/-
  The graph half of the network as plain whole-array mathematics: the normalised edge weights, one propagation along the
  edges, the Chebyshev recurrence and its damped sum. Every function takes the arrays it depends on, so that the two
  programs' host stretches can both be said to compute it.
-/
module

public import proofs.«01_k».proof.Proof.Gen.ReferenceIdeal

@[expose] public section

noncomputable section

namespace Cert.ReferenceIdeal.Graph

open Cert.ReferenceIdeal Cert.ReferenceIdeal.Gen Idealize.ShloMosaic

variable {F : FTy → Type} [FloatOps F]

/-- The table of the eleven Jackson damping factors. -/
def dampTable : Vec F S11 .f32 := fun i => FloatOps.ofBits .f32 (lit0 (S11.rowMajor i))

/-- The source node of every edge: row 0 of the edge list. -/
def source (edges : Vec F S2x160000 .i32) : Vec F S160000 .i32 :=
  shapeCast _ (extractStridedSlice S1x160000 ![0, 0] edges slices_S2x160000_S1x160000_0_0) shapeCasts_S1x160000_S160000

/-- The destination node of every edge: row 1 of the edge list. -/
def target (edges : Vec F S2x160000 .i32) : Vec F S160000 .i32 :=
  shapeCast _ (extractStridedSlice S1x160000 ![1, 0] edges slices_S2x160000_S1x160000_1_0) shapeCasts_S1x160000_S160000

/-- A column of node numbers to gather at, a negative one counted from the end. -/
def gatherAt (node : Vec F S160000 .i32) : Vec F S160000x1 .i32 :=
  broadcastInDim S160000x1 ![0] bcast_S160000_S160000x1_0
    (select (cmpi .slt node (broadcastInDim S160000 ![] bcast_S_S160000 (constantI S_ 32 0#32)))
      (addi node (broadcastInDim S160000 ![] bcast_S_S160000 (constantI S_ 32 10000#32))) node)

/-- The weighted in-degree of every node. -/
def degree (dst : Vec F S160000 .i32) (weight : Vec F S160000 .f32) : Vec F S10000 .f32 :=
  Host.scatterAdd scatter_S10000_S160000x1_S160000_n_0_0_1 (broadcastInDim S10000 ![] bcast_S_S10000 (constant S_ .f32 0x00000000#32))
    (broadcastInDim S160000x1 ![0] bcast_S160000_S160000x1_0 dst) weight

/-- Where a degree is positive. -/
def isPositive (deg : Vec F S10000 .f32) : Vec F S10000 .i1 :=
  cmpf .ogt deg (broadcastInDim S10000 ![] bcast_S_S10000 (constant S_ .f32 0x00000000#32))

/-- The inverse square root of a positive degree, zero elsewhere. -/
def invSqrt (deg : Vec F S10000 .f32) : Vec F S10000 .f32 :=
  select (isPositive deg)
    (Host.rsqrt (select (isPositive deg) deg (broadcastInDim S10000 ![] bcast_S_S10000 (id (constant S_ .f32 0x3F800000#32)))))
    (broadcastInDim S10000 ![] bcast_S_S10000 (id (constant S_ .f32 0x00000000#32)))

/-- The symmetrically normalised edge weights: the weight times the inverse square roots at both ends. -/
def normalised (dinv : Vec F S10000 .f32) (src dst : Vec F S160000 .i32) (weight : Vec F S160000 .f32) : Vec F S160000 .f32 :=
  mulf (mulf (Host.gather gather_S10000_S160000x1_S160000_n_0_n_n_0_1_1 dinv (gatherAt src)) weight)
    (Host.gather gather_S10000_S160000x1_S160000_n_0_n_n_0_1_1 dinv (gatherAt dst))

/-- One propagation: every node's row becomes the weighted sum of its neighbours' rows. -/
def propagate (src dst : Vec F S160000 .i32) (wn : Vec F S160000 .f32) (x : Vec F S10000x40 .f32) : Vec F S10000x40 .f32 :=
  Host.scatterAdd scatter_S10000x40_S160000x1_S160000x40_1_0_0_1
    (broadcastInDim S10000x40 ![] bcast_S_S10000x40 (constant S_ .f32 0x00000000#32))
    (broadcastInDim S160000x1 ![0] bcast_S160000_S160000x1_0 dst)
    (mulf (broadcastInDim S160000x40 ![0, 1] bcast_S160000x1_S160000x40_0_1 (broadcastInDim S160000x1 ![0] bcast_S160000_S160000x1_0 wn))
      (Host.gather gather_S10000x40_S160000x1_S160000x40_1_0_n_n_0_1_140 x (gatherAt src)))

/-- One step of the recurrence: twice the propagation of the last polynomial, less the one before it. -/
def chebStep (src dst : Vec F S160000 .i32) (wn : Vec F S160000 .f32) (last before : Vec F S10000x40 .f32) : Vec F S10000x40 .f32 :=
  subf (mulf (broadcastInDim S10000x40 ![] bcast_S_S10000x40 (constant S_ .f32 0x40000000#32)) (propagate src dst wn last)) before

/-- The `k`-th Chebyshev polynomial of the propagation, applied to `h`. -/
def cheb (src dst : Vec F S160000 .i32) (wn : Vec F S160000 .f32) (h : Vec F S10000x40 .f32) : ℕ → Vec F S10000x40 .f32
  | 0 => h
  | 1 => propagate src dst wn h
  | k + 2 => chebStep src dst wn (cheb src dst wn h (k + 1)) (cheb src dst wn h k)

/-- Each of the table's eleven entries can be sliced out. -/
theorem slices_entry : ∀ k : Fin 11, S11.Slices ![k.val] S1 := by decide

/-- The sum so far plus the table's entry `k` times a polynomial. -/
def addTerm (table : Vec F S11 .f32) (k : Fin 11) (sum poly : Vec F S10000x40 .f32) : Vec F S10000x40 .f32 :=
  addf sum (mulf (broadcastInDim S10000x40 ![] bcast_S_S10000x40
    (shapeCast S_ (extractStridedSlice S1 ![k.val] table (slices_entry k)) shapeCasts_S1_S_)) poly)

/-- The damped sum of the polynomials up to the `k`-th (`k ≤ 10`), the zeroth undamped. -/
def dampedSum (table : Vec F S11 .f32) (src dst : Vec F S160000 .i32) (wn : Vec F S160000 .f32) (h : Vec F S10000x40 .f32) :
    ℕ → Vec F S10000x40 .f32
  | 0 => h
  | k + 1 => addTerm table (Fin.ofNat 11 (k + 1)) (dampedSum table src dst wn h k) (cheb src dst wn h (k + 1))

/-- The filter: the damped sum to degree ten, with the weights the edge list and the edge weights give. -/
def filtered (edges : Vec F S2x160000 .i32) (weight : Vec F S160000 .f32) (h : Vec F S10000x40 .f32) : Vec F S10000x40 .f32 :=
  dampedSum dampTable (source edges) (target edges)
    (normalised (invSqrt (degree (target edges) weight)) (source edges) (target edges) weight) h 10

end Cert.ReferenceIdeal.Graph

end
-- ==== Proof.KernelFiltered.lean ====
/-
  The kernel's host operations between its two regions compute the graph filter.
-/
module

public import proofs.«01_k».proof.Proof.Graph
public import proofs.«01_k».proof.Proof.Gen.KernelIdeal.Frame
public import Idealize.ShloMosaic.Lib.StableHlo.RunRead

@[expose] public section

set_option maxRecDepth 16384

noncomputable section

namespace Cert.KernelIdeal.KernelFiltered

open Cert.KernelIdeal Cert.KernelIdeal.Gen
open Idealize.ShloMosaic Idealize.ShloMosaic.TcCoe Idealize.SL.Sem Idealize.ShloMosaic.StableHlo
open Cert.ReferenceIdeal.Graph (dampTable source target gatherAt degree isPositive invSqrt normalised propagate chebStep cheb addTerm
  dampedSum filtered)

variable {F : FTy → Type} [FloatOps F]

/-! ## The long stretch: one write per buffer -/

/-- What the long stretch of host operations leaves in a buffer, from contents `V`. -/
def final (V : Valuation τ sig (Elt F)) (r : Ref sig .tc) : (Proc.devRef .tc r : DevRef τ sig).ty.Contents (Elt F) :=
  after hostOps1_4 V (Proc.devRef .tc r)

/-- The buffers at which reading stops: the normalised weights, the polynomials, the partial sums. -/
abbrev named : List (Ref sig .tc) :=
  [main_v32, main_v45, main_v66, main_v87, main_v108, main_v129, main_v150, main_v171, main_v192, main_v213, main_v234,
   main_v50, main_v71, main_v92, main_v113, main_v134, main_v155, main_v176, main_v197, main_v218, main_v239]

/-- The references the long stretch writes, operation by operation. -/
theorem writes_eq : (hostOps1_4 : List (HloOp τ sig (Elt F))).map HloOp.writes
    = hostOps1_4_W.map fun w => {Proc.devRef (τ := τ) .tc w} := rfl

/-- A named buffer no operation from position `n` on writes holds, before those operations, what it holds at the end. -/
theorem upto_final (V : Valuation τ sig (Elt F)) (n : ℕ) (r : Ref sig .tc) (h : r ∈ named ∧ r ∉ hostOps1_4_W.drop n) :
    upto hostOps1_4 V n (no_index (Proc.devRef .tc r)) = final V r := by
  have hw : ((hostOps1_4 : List (HloOp τ sig (Elt F))).drop n).map HloOp.writes
      = (hostOps1_4_W.drop n).map fun w => {Proc.devRef (τ := τ) .tc w} := by
    rw [List.map_drop, List.map_drop, writes_eq]
  have ha : after hostOps1_4 V = after (hostOps1_4.drop n) (upto hostOps1_4 V n) := by
    rw [upto, ← after_append, List.take_append_drop]
  rw [final, ha, after_unwritten _ hw h.2]

set_option maxHeartbeats 2000000 in
/-- The recurrence's steps: the first propagation, then nine steps of one form. -/
theorem steps (V : Valuation τ sig (Elt F)) :
    let step := chebStep (F := F) (V (Proc.devRef .tc main_v4)) (V (Proc.devRef .tc main_v6)) (final V main_v32)
    final V main_v45 = propagate (F := F) (V (Proc.devRef .tc main_v4)) (V (Proc.devRef .tc main_v6)) (final V main_v32) (V (Proc.devRef .tc main_v2))
    ∧ final V main_v66 = step (final V main_v45) (V (Proc.devRef .tc main_v2))
    ∧ final V main_v87 = step (final V main_v66) (final V main_v45)
    ∧ final V main_v108 = step (final V main_v87) (final V main_v66)
    ∧ final V main_v129 = step (final V main_v108) (final V main_v87)
    ∧ final V main_v150 = step (final V main_v129) (final V main_v108)
    ∧ final V main_v171 = step (final V main_v150) (final V main_v129)
    ∧ final V main_v192 = step (final V main_v171) (final V main_v150)
    ∧ final V main_v213 = step (final V main_v192) (final V main_v171)
    ∧ final V main_v234 = step (final V main_v213) (final V main_v192) := by
  intro step
  refine ⟨?_, ?_, ?_, ?_, ?_, ?_, ?_, ?_, ?_, ?_⟩ <;>
  · conv_lhs => rw [final]
    after_reads_simp [upto_final]
    rfl

set_option maxHeartbeats 2000000 in
/-- The sum's steps: each adds the next damped polynomial. -/
theorem sums (V : Valuation τ sig (Elt F)) :
    let add := addTerm (F := F) (V (Proc.devRef .tc main_cst))
    final V main_v50 = add 1 (V (Proc.devRef .tc main_v2)) (final V main_v45)
    ∧ final V main_v71 = add 2 (final V main_v50) (final V main_v66)
    ∧ final V main_v92 = add 3 (final V main_v71) (final V main_v87)
    ∧ final V main_v113 = add 4 (final V main_v92) (final V main_v108)
    ∧ final V main_v134 = add 5 (final V main_v113) (final V main_v129)
    ∧ final V main_v155 = add 6 (final V main_v134) (final V main_v150)
    ∧ final V main_v176 = add 7 (final V main_v155) (final V main_v171)
    ∧ final V main_v197 = add 8 (final V main_v176) (final V main_v192)
    ∧ final V main_v218 = add 9 (final V main_v197) (final V main_v213)
    ∧ final V main_v239 = add 10 (final V main_v218) (final V main_v234) := by
  intro add
  refine ⟨?_, ?_, ?_, ?_, ?_, ?_, ?_, ?_, ?_, ?_⟩ <;>
  · conv_lhs => rw [final]
    after_reads_simp [upto_final]
    rfl

/-- The stretch's first operations normalise the edge weights. -/
theorem weights (V : Valuation τ sig (Elt F)) :
    final V main_v32 = normalised (F := F) (V (Proc.devRef .tc main_v16)) (V (Proc.devRef .tc main_v4)) (V (Proc.devRef .tc main_v6))
      (V (Proc.devRef .tc main_arg2)) := by
  conv_lhs => rw [final]
  after_reads_simp
  rfl

/-- The long stretch leaves the damped sum of the ten polynomials. -/
theorem damped (V : Valuation τ sig (Elt F)) :
    after hostOps1_4 V (Proc.devRef .tc main_v239) = dampedSum (F := F) (V (Proc.devRef .tc main_cst)) (V (Proc.devRef .tc main_v4))
      (V (Proc.devRef .tc main_v6)) (normalised (V (Proc.devRef .tc main_v16)) (V (Proc.devRef .tc main_v4)) (V (Proc.devRef .tc main_v6))
        (V (Proc.devRef .tc main_arg2))) (V (Proc.devRef .tc main_v2)) 10 := by
  obtain ⟨t1, t2, t3, t4, t5, t6, t7, t8, t9, t10⟩ := steps V
  obtain ⟨s1, s2, s3, s4, s5, s6, s7, s8, s9, s10⟩ := sums V
  rw [← weights]
  refine (show _ = final V main_v239 from rfl).trans ?_
  generalize final V main_v32 = wn at *
  rw [s10, s9, s8, s7, s6, s5, s4, s3, s2, s1, t10, t9, t8, t7, t6, t5, t4, t3, t2, t1]
  rfl

/-! ## The short stretches before it, and the whole -/

/-- The inverse square roots of the degrees, as the long stretch finds them. -/
theorem inverse (V : Valuation τ sig (Elt F)) :
    after hostOps1_3 (after hostOps1_2 (after hostOps1_1 (after hostOps1 V))) (Proc.devRef .tc main_v16)
      = invSqrt (F := F) (degree (target (V (Proc.devRef .tc main_arg1))) (V (Proc.devRef .tc main_arg2))) := by
  after_reads_simp
  rfl

/-- The edges' sources, as the long stretch finds them. -/
theorem sources (V : Valuation τ sig (Elt F)) :
    after hostOps1_3 (after hostOps1_2 (after hostOps1_1 (after hostOps1 V))) (Proc.devRef .tc main_v4)
      = source (F := F) (V (Proc.devRef .tc main_arg1)) := by
  after_reads_simp
  rfl

/-- The edges' destinations, as the long stretch finds them. -/
theorem targets (V : Valuation τ sig (Elt F)) :
    after hostOps1_3 (after hostOps1_2 (after hostOps1_1 (after hostOps1 V))) (Proc.devRef .tc main_v6)
      = target (F := F) (V (Proc.devRef .tc main_arg1)) := by
  after_reads_simp
  rfl

variable (m : (ℓ : Loc nD τ sig) → Buf (Elt F) ℓ) (ρ : Dev nD → PrngReg)

/-- What the short stretches do not write they leave as the first region left it. -/
theorem kept (c : Dev nD) (r : Ref sig .tc) (h : r ∉ hostOps1_W ++ hostOps1_1_W ++ hostOps1_2_W ++ hostOps1_3_W) :
    W6 m ρ c (Proc.devRef .tc r) = W2 m ρ c (Proc.devRef .tc r) := by
  simp only [List.mem_append, not_or] at h
  exact (W6_of m ρ c r h.2).trans ((W5_of m ρ c r h.1.2).trans ((W4_of m ρ c r h.1.1.2).trans (W3_of m ρ c r h.1.1.1)))

/-- The damping table is still the literal table when the long stretch reads it. -/
theorem table (c : Dev nD) : W6 m ρ c (Proc.devRef .tc main_cst) = dampTable (F := F) := by
  rw [kept m ρ c main_cst (by decide), W2_of m ρ c main_cst (by decide)]
  after_reads_simp
  rfl

/-- The kernel's logits are the filter of its first region's result, along its edge list and edge weights. -/
theorem logits (c : Dev nD) :
    W7 m ρ c (Proc.devRef .tc main_v239) = filtered (F := F) (m ((c : Thread nD τ).loc main_arg1)) (m ((c : Thread nD τ).loc main_arg2))
      (W2 m ρ c (Proc.devRef .tc main_v2)) := by
  refine (damped (W6 m ρ c)).trans ?_
  have hsrc : W6 m ρ c (Proc.devRef .tc main_v4) = _ := sources (W2 m ρ c)
  have hdst : W6 m ρ c (Proc.devRef .tc main_v6) = _ := targets (W2 m ρ c)
  have hinv : W6 m ρ c (Proc.devRef .tc main_v16) = _ := inverse (W2 m ρ c)
  rw [table, kept m ρ c main_v2 (by decide), W6_args m ρ c main_arg2 (by decide), hsrc, hdst, hinv,
    W2_args m ρ c main_arg1 (by decide), W2_args m ρ c main_arg2 (by decide)]
  rfl

end Cert.KernelIdeal.KernelFiltered

end
-- ==== Proof.KernelRun.lean ====
/-
  The kernel's run with its result: the log-softmax of the filter of the two dense layers.
-/
module

public import proofs.«01_k».proof.Proof.MlpBlock
public import proofs.«01_k».proof.Proof.SoftmaxBlock
public import proofs.«01_k».proof.Proof.KernelFiltered

@[expose] public section

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel terminates with its result array at what the second region leaves there and its
    arguments unchanged. -/
theorem run : θ_run defs (onTc (τ := τ) (main (F := F))) ⟨m, fun _ => 0, ρ⟩ fun r => ∀ c : Dev nD,
      r.2.mem ((c.tc : Thread nD τ).loc main_v240) = W8 m ρ c (Proc.devRef .tc main_v240)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c => ⟨h c _ (mem_uc main_v240 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c)⟩)

end Launch

variable (m : (ℓ : Loc nD τ sig) → Buf (Elt Ideal) ℓ) (ρ : Dev nD → PrngReg)

/-- What the kernel leaves in its result array, as one function of its arguments. -/
theorem result (c : Dev nD) : W8 m ρ c (Proc.devRef .tc main_v240)
    = Cert.ReferenceIdeal.RefTerms.logSoftmax (F := Ideal)
        (Cert.ReferenceIdeal.Graph.filtered (F := Ideal) (m ((c : Thread nD τ).loc main_arg1)) (m ((c : Thread nD τ).loc main_arg2))
          (Cert.ReferenceIdeal.RefTerms.mlp (F := Ideal) (m ((c : Thread nD τ).loc main_arg0)) (m ((c : Thread nD τ).loc main_arg3))
            (m ((c : Thread nD τ).loc main_arg4)) (m ((c : Thread nD τ).loc main_arg5)) (m ((c : Thread nD τ).loc main_arg6)))) := by
  refine (W8_arr m ρ c 1).trans ((SoftmaxBlock.result (V7 m ρ) c).trans ?_)
  exact congrArg _ ((KernelFiltered.logits m ρ c).trans (congrArg _ (MlpBlock.hidden m ρ c)))

end Cert.KernelIdeal.KernelRun

end
-- ==== Proof.RefFiltered.lean ====
/-
  The reference's host operations between its two dense layers and its log-softmax compute the graph filter.
-/
module

public import proofs.«01_k».proof.Proof.Graph
public import proofs.«01_k».proof.Proof.Gen.ReferenceIdeal.Run

@[expose] public section

set_option maxRecDepth 16384

noncomputable section

namespace Cert.ReferenceIdeal.RefFiltered

open Cert.ReferenceIdeal Cert.ReferenceIdeal.Gen Cert.ReferenceIdeal.Value Cert.ReferenceIdeal.Graph
open Idealize.ShloMosaic Idealize.ShloMosaic.TcCoe Idealize.SL.Sem Idealize.ShloMosaic.StableHlo

variable {F : FTy → Type} [FloatOps F]

/-- The reference's logits are the filter of its dense layers' output, along its edge list and edge weights. -/
theorem logits (V : Valuation τ sig (Elt F)) :
    res_main_v246 V = filtered (V (Proc.devRef .tc main_arg1)) (V (Proc.devRef .tc main_arg2)) (res_main_v9 V) := by
  have hwn : res_main_v39 V = normalised (invSqrt (degree (target (V (Proc.devRef .tc main_arg1))) (V (Proc.devRef .tc main_arg2))))
      (source (V (Proc.devRef .tc main_arg1))) (target (V (Proc.devRef .tc main_arg1))) (V (Proc.devRef .tc main_arg2)) := rfl
  rw [filtered, ← hwn]
  rfl

end Cert.ReferenceIdeal.RefFiltered

end
-- ==== Proof.RefRun.lean ====
/-
  The reference's result as one function of its arguments: the log-softmax of the filter of the two dense layers.
-/
module

public import proofs.«01_k».proof.Proof.RefFiltered
public import proofs.«01_k».proof.Proof.RefTerms

@[expose] public section

set_option maxRecDepth 16384

noncomputable section

namespace Cert.ReferenceIdeal.RefRun

open Cert.ReferenceIdeal Cert.ReferenceIdeal.Gen Cert.ReferenceIdeal.Value Cert.ReferenceIdeal.Graph Cert.ReferenceIdeal.RefTerms
open Idealize.ShloMosaic Idealize.ShloMosaic.TcCoe Idealize.SL.Sem Idealize.ShloMosaic.StableHlo

variable {F : FTy → Type} [FloatOps F]

/-- The reference's dense part is the two layers of its arguments. -/
theorem hidden (V : Valuation τ sig (Elt F)) :
    res_main_v9 V = mlp (V (Proc.devRef .tc main_arg0)) (V (Proc.devRef .tc main_arg3)) (V (Proc.devRef .tc main_arg4))
      (V (Proc.devRef .tc main_arg5)) (V (Proc.devRef .tc main_arg6)) := rfl

/-- The term the reference's run ends with is the log-softmax of its logits. -/
theorem softmax (V : Valuation τ sig (Elt F)) :
    subf (res_main_call4_v5 V) (broadcastInDim S10000x40 ![0, 1] bcast_S10000x1_S10000x40_0_1 (Host.log
      (broadcastInDim S10000x1 ![0] bcast_S10000_S10000x1_0 (Host.reduceAdd (Host.exp (res_main_call4_v5 V))
        (constant S_ .f32 0x00000000#32) reducesTo_S10000x40_S10000_d1 h_S_))))
      = logSoftmax (res_main_v246 V) := rfl

variable (m : (ℓ : Loc nD τ sig) → Buf (Elt F) ℓ) (ρ : Dev nD → PrngReg)

/-- Every execution of the reference terminates with its result array at the log-softmax of the filter of the two dense
    layers of its arguments, and its arguments unchanged. -/
theorem run : θ_run defs (onTc (τ := τ) (main (F := F))) ⟨m, fun _ => 0, ρ⟩ fun r => ∀ c : Dev nD,
      r.2.mem ((c.tc : Thread nD τ).loc main_v247)
        = logSoftmax (filtered (m ((c.tc : Thread nD τ).loc main_arg1)) (m ((c.tc : Thread nD τ).loc main_arg2))
            (mlp (m ((c.tc : Thread nD τ).loc main_arg0)) (m ((c.tc : Thread nD τ).loc main_arg3)) (m ((c.tc : Thread nD τ).loc main_arg4))
              (m ((c.tc : Thread nD τ).loc main_arg5)) (m ((c.tc : Thread nD τ).loc main_arg6))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((softmax _).trans (congrArg _ ((RefFiltered.logits _).trans
    (congrArg _ (hidden _))))), (h c).2⟩) (Value.run m ρ)

end Cert.ReferenceIdeal.RefRun

end
-- ==== Proof.lean ====
/-
  The proof of the five claims: the three frames, the idealization's step, and the equality of the kernel and the reference over the
  extended reals, which is read off the two programs' runs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The idealized reference runs to the end, its arguments unchanged and every counter at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.RefRun.run m g)

/-- Over the extended reals the kernel and the reference leave the same result from the same arguments. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.KernelRun.run m g
  · run_from Cert.ReferenceIdeal.RefRun.run m' g'
    exact (Cert.KernelIdeal.KernelRun.result m g c).symm

/-- All five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
